-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x4096 : Shape := ⟨2, ![16384, 4096]⟩
abbrev S4096x256 : Shape := ⟨2, ![4096, 256]⟩
abbrev S16384x256 : Shape := ⟨2, ![16384, 256]⟩
abbrev S512x4096 : Shape := ⟨2, ![512, 4096]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096x256, .f32⟩
  | .hbm, ⟨2, _⟩ => ⟨S16384x256, .f32⟩
  | .local _ .vmem, ⟨0, _⟩ => ⟨S512x4096, .f32⟩
  | .local _ .vmem, ⟨1, _⟩ => ⟨S512x4096, .f32⟩
  | .local _ .vmem, ⟨2, _⟩ => ⟨S4096x256, .f32⟩
  | .local _ .vmem, ⟨3, _⟩ => ⟨S512x256, .f32⟩
  | .local _ .vmem, ⟨4, _⟩ => ⟨S512x256, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S16384x4096 : Shape := ⟨2, ![16384, 4096]⟩
abbrev S4096x256 : Shape := ⟨2, ![4096, 256]⟩
abbrev S16384x256 : Shape := ⟨2, ![16384, 256]⟩

abbrev nBuf : Space → Nat
  | .hbm => 3
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x256, .f32⟩
  | .hbm, ⟨2, _⟩ => ⟨S16384x256, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Product.lean ====
/-
  The product of two matrices over the extended reals, entry by entry, and the two operations that compute it: the
  kernel body's product of one block of rows, and the reference's product of the whole arrays.
-/
module

public import proofs.«01_k».proof.Proof.Gen.KernelIdeal.Skeleton
public import proofs.«01_k».proof.Proof.Gen.KernelIdeal
public import proofs.«01_k».proof.Proof.Gen.ReferenceIdeal
public import Idealize.ShloMosaic.PureOps.Ideal
public import Idealize.ShloMosaic.PureOps.Ideal.Laws
public import Idealize.ShloMosaic.Lib.MatmulPlain
public import Idealize.ShloMosaic.Lib.StackMember

@[expose] public section

noncomputable section

namespace Cert.Proof.Product

open Idealize.ShloMosaic Idealize.ShloMosaic.ValueIdx
open scoped BigOperators

/-- The product of an `M × K` and a `K × N` matrix: entry `(r, c)` is the sum over `k` of `A r k · B k c`. -/
def product {M K N : ℕ} (A : (⟨2, ![M, K]⟩ : Shape).Idx → EReal) (B : (⟨2, ![K, N]⟩ : Shape).Idx → EReal) :
    (⟨2, ![M, N]⟩ : Shape).Idx → EReal :=
  fun j => ∑ k : Fin K, A (ix2 (j 0) k) * B (ix2 k (j 1))

/-- One row of a product depends on that row of the left factor alone: where row `i 0` of `A` is row `j 0` of a block
    `A'`, and the column is the same, the two products agree. -/
theorem product_row {M M' K N : ℕ} (A : (⟨2, ![M, K]⟩ : Shape).Idx → EReal) (A' : (⟨2, ![M', K]⟩ : Shape).Idx → EReal)
    (B B' : (⟨2, ![K, N]⟩ : Shape).Idx → EReal) (i : (⟨2, ![M, N]⟩ : Shape).Idx) (j : (⟨2, ![M', N]⟩ : Shape).Idx)
    (hA : ∀ k : Fin K, A' (ix2 (j 0) k) = A (ix2 (i 0) k)) (hB : ∀ k : Fin K, B' (ix2 k (j 1)) = B (ix2 k (i 1))) :
    product A' B' j = product A B i :=
  Finset.sum_congr rfl fun k _ => by rw [hA k, hB k]

/-- What the kernel's body computes of a loaded block of rows and the loaded weights is their product: the casts to
    bfloat16 change nothing over the extended reals, and the accumulator is zero. -/
theorem body_eq (x : Vec Ideal Cert.KernelIdeal.S512x4096 .f32) (w : Vec Ideal Cert.KernelIdeal.S4096x256 .f32) :
    Cert.KernelIdeal.Gen.k0_pay1 (F := Ideal) x w = product (M := 512) (K := 4096) (N := 256) x w := by
  funext j
  obtain ⟨r, c, rfl⟩ : ∃ (r : Fin 512) (c : Fin 256), j = ix2 r c := ⟨j 0, j 1, eq_ix2 j⟩
  refine (Ideal.matmul_plain_apply (φ₁ := .bf16) (φ₂ := .bf16) none x w
    (constant Cert.KernelIdeal.S512x256 .f32 0x00000000#32) r c).trans ?_
  show Ideal.ofBits .f32 0x00000000#32 + _ = _
  rw [Ideal.ofBits_zero_f32, zero_add]
  rfl

/-- What the reference computes of the two whole arrays is their product. -/
theorem reference_eq (x : FVec Ideal Cert.ReferenceIdeal.S16384x4096 .f32) (w : FVec Ideal Cert.ReferenceIdeal.S4096x256 .f32) :
    Host.dotGeneral Cert.ReferenceIdeal.dot_S16384x4096_S4096x256_S16384x256_1_0_0_1_n_n none x w
      = product (M := 16384) (K := 4096) (N := 256) x w := by
  funext j
  obtain ⟨r, c, rfl⟩ : ∃ (r : Fin 16384) (c : Fin 256), j = ix2 r c := ⟨j 0, j 1, eq_ix2 j⟩
  exact StackMember.dotGeneral_plain_apply none x w r c

end Cert.Proof.Product

end
-- ==== Proof.KernelValue.lean ====
/-
  What the kernel leaves in its result array, over the extended reals: the product of its two arguments. Grid point `t`
  computes rows `512·t … 512·t + 511` from the same rows of the left argument and the whole right argument, and the 32
  points write every row.
-/
module

public import proofs.«01_k».proof.Proof.Product
public import proofs.«01_k».proof.Proof.Gen.KernelIdeal.Value
public import Idealize.ShloMosaic.Lib.Pipeline.ValueKit

@[expose] public section

noncomputable section

namespace Cert.Proof.KernelValue

open Cert.KernelIdeal Cert.KernelIdeal.Gen Idealize.ShloMosaic Idealize.ShloMosaic.TcCoe Idealize.SL.Sem
open Idealize.ShloMosaic.ValueIdx
open Cert.Proof.Product

variable (m : (ℓ : Loc nD τ sig) → Buf (Elt Ideal) ℓ) (ρ : Dev nD → PrngReg)

/-- The product of device `c`'s two argument arrays. -/
abbrev whole (c : Dev nD) : Buf (Elt Ideal) ((c : Thread nD τ).loc main_v0) :=
  product (M := 16384) (K := 4096) (N := 256) (m ((c : Thread nD τ).loc main_arg0)) (m ((c : Thread nD τ).loc main_arg1))

/-- At every grid point the left argument's block and the result's are the same block of rows, both at column block
    zero, and the right argument's block is the whole array. -/
theorem index_facts : ∀ t : Fin cfg0.N,
    win0_0.index t 0 = win0_2.index t 0 ∧ win0_0.index t 1 = 0 ∧ win0_2.index t 1 = 0
      ∧ win0_1.index t 0 = 0 ∧ win0_1.index t 1 = 0 :=
  (by decide +kernel : ∀ t : Fin grid0.N,
    win0_0.index t 0 = win0_2.index t 0 ∧ win0_0.index t 1 = 0 ∧ win0_2.index t 1 = 0
      ∧ win0_1.index t 0 = 0 ∧ win0_1.index t 1 = 0)

/-- The result array after the run is the product of the two arguments. -/
theorem final (c : Dev nD) : (dats m 0 c).arrAt 2 cfg0.N = whole m c := by
  refine (dats m 0 c).arrAt_eq_of_covers 2 _ (by decide +kernel) fun t hf y => ?_
  blk_simp
  rw [after0_2]
  frame_out
  rw [body_eq]
  obtain ⟨e0, e1, e2, e3, e4⟩ := index_facts t
  refine product_row _ _ _ _ _ _ (fun k => ?_) (fun k => ?_)
  · show iblk m c 0 t _ = _
    blk_simp [iblk]
    rw [V_main_arg0]
    refine congrArg _ (Shape.idx_ext₂ ?_ ?_)
    · show _ = (((win0_2.blk t).view.emb y 0 : Fin _) : ℕ)
      blk_simp
      rw [e0]
    · blk_simp
      rw [e1, Nat.zero_mul, Nat.zero_add]
  · show iblk m c 1 t _ = _
    blk_simp [iblk]
    rw [V_main_arg1]
    refine congrArg _ (Shape.idx_ext₂ ?_ ?_)
    · blk_simp
      rw [e3, Nat.zero_mul, Nat.zero_add]
    · show _ = (((win0_2.blk t).view.emb y 1 : Fin _) : ℕ)
      blk_simp
      rw [e2, e4]

/-- Every run of the kernel ends with the product of the arguments in the result array, the arguments unchanged. -/
theorem run : θ_run defs (onTc (τ := τ) (main (F := Ideal))) ⟨m, fun _ => 0, ρ⟩ fun r => ∀ c : Dev nD,
      r.2.mem ((c : Thread nD τ).loc main_v0) = whole m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks (F := Ideal) m ρ)

end Cert.Proof.KernelValue

end
-- ==== Proof.lean ====
/-
  The certificate: the kernel, its ideal reading and the reference run to the end without fault, leave their arguments
  unchanged and every semaphore counter at zero; and over the extended reals the kernel's result is the reference's, the
  product of the two arguments (Proof/Product.lean, Proof/KernelValue.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Product
public import proofs.«01_k».proof.Proof.KernelValue
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The kernel as printed runs, and leaves its arguments and every semaphore counter as they should be. -/
theorem frame_kernel : Cert.quiescent_Kernel (hKernel := Cert.Kernel.Gen.facts) :=
  fun m ρ _ => Cert.Kernel.Gen.frame m ρ

/-- So does its ideal reading. -/
theorem frame_kernelIdeal : Cert.quiescent_KernelIdeal (hKernelIdeal := Cert.KernelIdeal.Gen.facts) :=
  fun m ρ _ => Cert.KernelIdeal.Gen.frame m ρ

/-- So does the reference, which has no semaphore. -/
theorem frame_reference : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩)
    (Cert.ReferenceIdeal.Value.run (F := Ideal) m ρ)

/-- Kernel and reference compute the same function: both results are the product of the arguments. -/
theorem same_product : Cert.algebraic_KernelIdeal_ReferenceIdeal (hKernelIdeal := Cert.KernelIdeal.Gen.facts)
    (hReferenceIdeal := Cert.ReferenceIdeal.Gen.facts) := by
  intro m ρ m' ρ' _ hagree
  refine ⟨fun c => KernelValue.whole m c, KernelValue.run m ρ, ?_⟩
  refine (θ_run Cert.ReferenceIdeal.defs _ _).mono (fun r h c => ⟨(h c).1.trans ?_, (h c).2⟩)
    (Cert.ReferenceIdeal.Value.run (F := Ideal) m' ρ')
  rw [(hagree c).1, (hagree c).2]
  exact Product.reference_eq _ _

/-- All the claims. -/
theorem claim : Cert.Claim :=
  ⟨Cert.Kernel.Gen.facts, Cert.KernelIdeal.Gen.facts, Cert.ReferenceIdeal.Gen.facts,
    frame_kernel, frame_kernelIdeal, frame_reference, trivial, same_product⟩

end Cert.Proof

end
